-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_level_table [hPre_level_table : Cert.Pre_level_table.Facts] (m : (ℓ : Loc Cert.KernelIdeal.nD Cert.KernelIdeal.τ Cert.KernelIdeal.sig) → Buf (Elt Ideal) ℓ) : Prop :=
  ∀ c : Dev Cert.KernelIdeal.nD,
    (Cert.Pre_level_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_level_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_level_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_level_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_level_table [hPre_level_table : Cert.Pre_level_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_level_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_level_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_level_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_level_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_level_table [hKernelIdeal : Cert.KernelIdeal.Facts] [hPre_level_table : Cert.Pre_level_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_level_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_level_table [hReferenceIdeal : Cert.ReferenceIdeal.Facts] [hPre_level_table : Cert.Pre_level_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_level_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_level_table [hKernelIdeal : Cert.KernelIdeal.Facts] [hReferenceIdeal : Cert.ReferenceIdeal.Facts] [hPre_level_table : Cert.Pre_level_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_level_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_level_table : Cert.Pre_level_table.Facts),
    quiescent_Kernel (hKernel := hKernel)
    ∧ quiescent_KernelIdeal (hKernelIdeal := hKernelIdeal)
    ∧ quiescent_KernelIdeal_pre_level_table (hKernelIdeal := hKernelIdeal) (hPre_level_table := hPre_level_table)
    ∧ quiescent_ReferenceIdeal (hReferenceIdeal := hReferenceIdeal)
    ∧ quiescent_ReferenceIdeal_pre_level_table (hReferenceIdeal := hReferenceIdeal) (hPre_level_table := hPre_level_table)
    ∧ preserves_Kernel_KernelIdeal
    ∧ algebraic_KernelIdeal_ReferenceIdeal_pre_level_table (hKernelIdeal := hKernelIdeal) (hReferenceIdeal := hReferenceIdeal) (hPre_level_table := hPre_level_table)
-- ==== Pre_level_table.lean ====
abbrev S64x28x28 : Shape := ⟨3, ![64, 28, 28]⟩
abbrev S784x2048 : Shape := ⟨2, ![784, 2048]⟩
abbrev S1024x2048 : Shape := ⟨2, ![1024, 2048]⟩
abbrev S1x2048 : Shape := ⟨2, ![1, 2048]⟩
abbrev S_ : Shape := ⟨0, ![]⟩
abbrev S1023x2048 : Shape := ⟨2, ![1023, 2048]⟩

class Facts : Prop where
  slices_S1024x2048_S1x2048_0_0 : S1024x2048.Slices ![0, 0] S1x2048
  slices_S1024x2048_S1x2048_1023_0 : S1024x2048.Slices ![1023, 0] S1x2048
  bcast_S1x2048_S1024x2048_0_1 : S1x2048.BroadcastsInDim S1024x2048 (![0, 1] : Fin 2 → Fin S1024x2048.rank)
  bcast_S_S784x2048 : S_.BroadcastsInDim S784x2048 (![] : Fin 0 → Fin S784x2048.rank)
  bcast_S_S1024x2048 : S_.BroadcastsInDim S1024x2048 (![] : Fin 0 → Fin S1024x2048.rank)
  slices_S1024x2048_S1023x2048_0_0 : S1024x2048.Slices ![0, 0] S1023x2048
  slices_S1024x2048_S1023x2048_1_0 : S1024x2048.Slices ![1, 0] S1023x2048

variable [Facts]

def fn {F : FTy → Type} [FloatOps F] (main_arg0 : FVec F S64x28x28 .f32) (main_arg1 : FVec F S784x2048 .f32) (main_arg2 : FVec F S1024x2048 .f32) : IVec S784x2048 1 × IVec S1024x2048 1 × IVec S1024x2048 1 × IVec S1023x2048 1 :=
  let main_v0 : FVec F S1x2048 .f32 := (extractStridedSlice S1x2048 ![0, 0] · slices_S1024x2048_S1x2048_0_0) main_arg2
  let main_v1 : FVec F S1x2048 .f32 := (extractStridedSlice S1x2048 ![1023, 0] · slices_S1024x2048_S1x2048_1023_0) main_arg2
  let main_v2 : FVec F S1024x2048 .f32 := broadcastInDim S1024x2048 ![0, 1] bcast_S1x2048_S1024x2048_0_1 main_v0
  let main_v3 : IVec S1024x2048 1 := cmpf .oeq main_arg2 main_v2
  let main_v4 : FVec F S784x2048 .f32 := Host.absf main_arg1
  let main_cst : FVec F S_ .f32 := constant S_ .f32 0x7F800000#32
  let main_v5 : FVec F S784x2048 .f32 := broadcastInDim S784x2048 ![] bcast_S_S784x2048 main_cst
  let main_v6 : IVec S784x2048 1 := cmpf .olt main_v4 main_v5
  let main_v7 : FVec F S1024x2048 .f32 := Host.absf main_arg2
  let main_cst_0 : FVec F S_ .f32 := constant S_ .f32 0x7F800000#32
  let main_v8 : FVec F S1024x2048 .f32 := broadcastInDim S1024x2048 ![] bcast_S_S1024x2048 main_cst_0
  let main_v9 : IVec S1024x2048 1 := cmpf .olt main_v7 main_v8
  let main_v10 : FVec F S1024x2048 .f32 := broadcastInDim S1024x2048 ![0, 1] bcast_S1x2048_S1024x2048_0_1 main_v1
  let main_v11 : IVec S1024x2048 1 := cmpf .oeq main_arg2 main_v10
  let main_v12 : IVec S1024x2048 1 := ori main_v3 main_v11
  let main_v13 : IVec S1023x2048 1 := (extractStridedSlice S1023x2048 ![0, 0] · slices_S1024x2048_S1023x2048_0_0) main_v3
  let main_v14 : IVec S1023x2048 1 := (extractStridedSlice S1023x2048 ![1, 0] · slices_S1024x2048_S1023x2048_1_0) main_v3
  let main_v15 : IVec S1023x2048 1 := noti main_v14
  let main_v16 : IVec S1023x2048 1 := ori main_v13 main_v15
  (main_v6, main_v9, main_v12, main_v16)
-- ==== Kernel.lean ====
abbrev S64x28x28 : Shape := ⟨3, ![64, 28, 28]⟩
abbrev S784x2048 : Shape := ⟨2, ![784, 2048]⟩
abbrev S1024x2048 : Shape := ⟨2, ![1024, 2048]⟩
abbrev S64x784 : Shape := ⟨2, ![64, 784]⟩
abbrev S784x64 : Shape := ⟨2, ![784, 64]⟩
abbrev S64x1x2048 : Shape := ⟨3, ![64, 1, 2048]⟩
abbrev S1x2048 : Shape := ⟨2, ![1, 2048]⟩
abbrev S2048 : Shape := ⟨1, ![2048]⟩
abbrev S16x2048 : Shape := ⟨2, ![16, 2048]⟩
abbrev S784 : Shape := ⟨1, ![784]⟩
abbrev S784x1 : Shape := ⟨2, ![784, 1]⟩
abbrev S16x1 : Shape := ⟨2, ![16, 1]⟩
abbrev S1x1x2048 : Shape := ⟨3, ![1, 1, 2048]⟩
abbrev S64x2048 : Shape := ⟨2, ![64, 2048]⟩

abbrev nBuf : Space → Nat
  | .hbm => 8
  | .vmem => 4
  | .smem => 0
  | _ => 0

abbrev bufTy : (tb : Table) → Fin (tcTables nBuf tb) → BufTy
  | .hbm, ⟨0, _⟩ => ⟨S64x28x28, .f32⟩
  | .hbm, ⟨1, _⟩ => ⟨S784x2048, .f32⟩
  | .hbm, ⟨2, _⟩ => ⟨S1024x2048, .f32⟩
  | .hbm, ⟨3, _⟩ => ⟨S64x784, .f32⟩
  | .hbm, ⟨4, _⟩ => ⟨S784x64, .f32⟩
  | .hbm, ⟨5, _⟩ => ⟨S784x2048, .bf16⟩
  | .hbm, ⟨6, _⟩ => ⟨S64x1x2048, .f32⟩
  | .hbm, ⟨7, _⟩ => ⟨S64x2048, .f32⟩
  | .local _ .vmem, ⟨0, _⟩ => ⟨S784x64, .f32⟩
  | .local _ .vmem, ⟨1, _⟩ => ⟨S784x2048, .bf16⟩
  | .local _ .vmem, ⟨2, _⟩ => ⟨S1024x2048, .f32⟩
  | .local _ .vmem, ⟨3, _⟩ => ⟨S64x1x2048, .f32⟩
  | _, _ => ⟨S64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2_i32 : BitVec 32 := 2#32
  let v190 : BitVec 32 := Scalar.addi c0_i32 c2_i32
  let c1_i32 : BitVec 32 := 1#32
  ⟨c0_i32, v190, c1_i32⟩
def k0_off1 (k0_t1 : Fin k0_t1_loop.trips) (c0_i32_1870 : BitVec 32) : Fin 3 → Nat :=
  let c0_i32 : BitVec 32 := 0#32
  let c1_i32 : BitVec 32 := 1#32
  let arg4 : BitVec 32 := Scf.iv c0_i32 c1_i32 k0_t1
  let c32_i32_1869 : BitVec 32 := 32#32
  let v11596 : BitVec 32 := Scalar.muli arg4 c32_i32_1869
  let v11597 : BitVec 32 := Scalar.addi v11596 c0_i32_1870
  let v11598 : Index := Scalar.indexCast v11597
  let c0_1871 : Index := 0#32
  let c0_1872 : Index := 0#32
  ![v11598.toNat, 0, 0]
abbrev stage0_0 : Fin 1 → Memref sig .tc .vmem S784x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S784x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S64x28x28 : Shape := ⟨3, ![64, 28, 28]⟩
abbrev S784x2048 : Shape := ⟨2, ![784, 2048]⟩
abbrev S1024x2048 : Shape := ⟨2, ![1024, 2048]⟩
abbrev S64x784 : Shape := ⟨2, ![64, 784]⟩
abbrev S_ : Shape := ⟨0, ![]⟩
abbrev S64x784x1 : Shape := ⟨3, ![64, 784, 1]⟩
abbrev S1 : Shape := ⟨1, ![1]⟩
abbrev S1x1x1 : Shape := ⟨3, ![1, 1, 1]⟩
abbrev S64x784x2048 : Shape := ⟨3, ![64, 784, 2048]⟩
abbrev S1x784x2048 : Shape := ⟨3, ![1, 784, 2048]⟩
abbrev S64x2048 : Shape := ⟨2, ![64, 2048]⟩

abbrev nBuf : Space → Nat
  | .hbm => 60
  | .vmem => 0
  | .smem => 0
  | _ => 0

abbrev bufTy : (tb : Table) → Fin (tcTables nBuf tb) → BufTy
  | .hbm, ⟨0, _⟩ => ⟨S64x28x28, .f32⟩
  | .hbm, ⟨1, _⟩ => ⟨S784x2048, .f32⟩
  | .hbm, ⟨2, _⟩ => ⟨S1024x2048, .f32⟩
  | .hbm, ⟨3, _⟩ => ⟨S64x784, .f32⟩
  | .hbm, ⟨4, _⟩ => ⟨S_, .f32⟩
  | .hbm, ⟨5, _⟩ => ⟨S64x784, .f32⟩
  | .hbm, ⟨6, _⟩ => ⟨S64x784, .f32⟩
  | .hbm, ⟨7, _⟩ => ⟨S_, .f32⟩
  | .hbm, ⟨8, _⟩ => ⟨S64x784, .f32⟩
  | .hbm, ⟨9, _⟩ => ⟨S64x784, .f32⟩
  | .hbm, ⟨10, _⟩ => ⟨S_, .f32⟩
  | .hbm, ⟨11, _⟩ => ⟨S64x784, .f32⟩
  | .hbm, ⟨12, _⟩ => ⟨S64x784, .f32⟩
  | .hbm, ⟨13, _⟩ => ⟨S64x784, .f32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S64x784, .f32⟩
  | .hbm, ⟨18, _⟩ => ⟨S64x784, .f32⟩
  | .hbm, ⟨19, _⟩ => ⟨S_, .f32⟩
  | .hbm, ⟨20, _⟩ => ⟨S64x784, .f32⟩
  | .hbm, ⟨21, _⟩ => ⟨S64x784, .f32⟩
  | .hbm, ⟨22, _⟩ => ⟨S64x784, .i32⟩
  | .hbm, ⟨23, _⟩ => ⟨S_, .i32⟩
  | .hbm, ⟨24, _⟩ => ⟨S64x784, .i32⟩
  | .hbm, ⟨25, _⟩ => ⟨S64x784, .i1⟩
  | .hbm, ⟨26, _⟩ => ⟨S_, .i32⟩
  | .hbm, ⟨27, _⟩ => ⟨S64x784, .i32⟩
  | .hbm, ⟨28, _⟩ => ⟨S64x784, .i32⟩
  | .hbm, ⟨29, _⟩ => ⟨S64x784, .i32⟩
  | .hbm, ⟨30, _⟩ => ⟨S64x784x1, .i32⟩
  | .hbm, ⟨31, _⟩ => ⟨S1, .i32⟩
  | .hbm, ⟨32, _⟩ => ⟨S_, .i32⟩
  | .hbm, ⟨33, _⟩ => ⟨S64x784x1, .i32⟩
  | .hbm, ⟨34, _⟩ => ⟨S64x784x1, .i1⟩
  | .hbm, ⟨35, _⟩ => ⟨S1x1x1, .i32⟩
  | .hbm, ⟨36, _⟩ => ⟨S64x784x1, .i32⟩
  | .hbm, ⟨37, _⟩ => ⟨S64x784x1, .i1⟩
  | .hbm, ⟨38, _⟩ => ⟨S64x784x1, .i1⟩
  | .hbm, ⟨39, _⟩ => ⟨S_, .i1⟩
  | .hbm, ⟨40, _⟩ => ⟨S64x784, .i1⟩
  | .hbm, ⟨41, _⟩ => ⟨S64x784x2048, .f32⟩
  | .hbm, ⟨42, _⟩ => ⟨S64x784x2048, .i1⟩
  | .hbm, ⟨43, _⟩ => ⟨S_, .f32⟩
  | .hbm, ⟨44, _⟩ => ⟨S64x784x2048, .f32⟩
  | .hbm, ⟨45, _⟩ => ⟨S64x784x2048, .f32⟩
  | .hbm, ⟨46, _⟩ => ⟨S1x784x2048, .f32⟩
  | .hbm, ⟨47, _⟩ => ⟨S64x784x2048, .f32⟩
  | .hbm, ⟨48, _⟩ => ⟨S64x784x2048, .f32⟩
  | .hbm, ⟨49, _⟩ => ⟨S_, .f32⟩
  | .hbm, ⟨50, _⟩ => ⟨S64x2048, .f32⟩
  | .hbm, ⟨51, _⟩ => ⟨S_, .f32⟩
  | .hbm, ⟨52, _⟩ => ⟨S64x2048, .f32⟩
  | .hbm, ⟨53, _⟩ => ⟨S64x2048, .i1⟩
  | .hbm, ⟨54, _⟩ => ⟨S_, .f32⟩
  | .hbm, ⟨55, _⟩ => ⟨S_, .f32⟩
  | .hbm, ⟨56, _⟩ => ⟨S64x2048, .f32⟩
  | .hbm, ⟨57, _⟩ => ⟨S64x2048, .f32⟩
  | .hbm, ⟨58, _⟩ => ⟨S64x2048, .f32⟩
  | .hbm, ⟨59, _⟩ => ⟨S64x2048, .f32⟩
  | _, _ => ⟨S64x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v8 : Ref sig .tc := ⟨.hbm, 21, rfl⟩
abbrev main_v9 : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_c_1 : Ref sig .tc := ⟨.hbm, 31, rfl⟩
abbrev main_call2_c_2 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_3 : Ref sig .tc := ⟨.hbm, 39, rfl⟩
abbrev main_call2_v12 : Ref sig .tc := ⟨.hbm, 40, rfl⟩
abbrev main_call2_v13 : Ref sig .tc := ⟨.hbm, 41, rfl⟩
abbrev main_call2_v14 : Ref sig .tc := ⟨.hbm, 42, rfl⟩
abbrev main_call2_cst : Ref sig .tc := ⟨.hbm, 43, rfl⟩
abbrev main_call2_v15 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_cst_4 : Ref sig .tc := ⟨.hbm, 51, rfl⟩
abbrev main_v15 : Ref sig .tc := ⟨.hbm, 52, rfl⟩
abbrev main_v16 : Ref sig .tc := ⟨.hbm, 53, rfl⟩
abbrev main_cst_5 : Ref sig .tc := ⟨.hbm, 54, rfl⟩
abbrev main_cst_6 : Ref sig .tc := ⟨.hbm, 55, rfl⟩
abbrev main_call3_v0 : Ref sig .tc := ⟨.hbm, 56, rfl⟩
abbrev main_call3_v1 : Ref sig .tc := ⟨.hbm, 57, rfl⟩
abbrev main_v17 : Ref sig .tc := ⟨.hbm, 58, rfl⟩
abbrev main_v18 : Ref sig .tc := ⟨.hbm, 59, rfl⟩

abbrev nD : Nat := 1
abbrev τ : Topo := Topo.v7x

variable {F : FTy → Type} [FloatOps F]
-- ==== Proof.Pieces.lean ====
/- What one trip of the kernel's loop stores, in a vocabulary of its own: the column of codes of one row of the output,
   the running sums over the chunks of positions, and the row the sums give. The generated run names each of these
   values for itself; the one statement here says they are this vocabulary's values, for the thirty-two rows of a trip. -/
module

public import proofs.«01_k».proof.Proof.Gen.KernelIdeal.Loops

@[expose] public section

set_option maxRecDepth 65536

noncomputable section

namespace Cert.Encode

open Idealize.ShloMosaic Idealize.ShloMosaic.TcCoe Cert.KernelIdeal Cert.KernelIdeal.Gen

variable {F : FTy → Type} [FloatOps F]

/-- The codes of output row `32 t + j`, one per position: of the codes `code` (positions by rows), the lane whose number
    is the row's, every other lane read as zero, and the lanes summed. -/
def column (code : FVec F S784x64 .f32) (lane : IVec S784x64 32) (t : Fin k0_t1_loop.trips) (j : Fin 32) : FVec F S784x1 .bf16 :=
  truncf .bf16
    (shapeCast S784x1
      (multiReduction .add [1] S784
        (select (cmpi .eq lane (broadcast S784x64 (Scalar.addi (Scalar.muli (Scf.iv 0#32 1#32 t) 32#32) (BitVec.ofNat 32 j.val))))
          code (broadcast S784x64 (Scalar.ofBits .f32 0x00000000#32)))
        0x00000000#32 reduces_S784x64_S784 (.inl rfl) rfl)
      shapeCasts_S784_S784x1)
    bitsLt_bf16_f32

/-- Sixteen rows from row `16 n` lie within the position vectors, for each of the forty-nine chunks. -/
theorem chunk_inb (n : ℕ) (h : n + 1 ≤ 49) : ∀ a, (![16 * n, 0] : Fin 2 → ℕ) a + S16x2048.size a ≤ S784x2048.size a := by
  intro a
  match a with
  | ⟨0, _⟩ => show 16 * n + 16 ≤ 784; omega
  | ⟨1, _⟩ => show 0 + 2048 ≤ 2048; omega

/-- Sixteen entries from entry `16 n` lie within a column of codes, for each of the forty-nine chunks. -/
theorem column_slices (n : ℕ) (h : n + 1 ≤ 49) : S784x1.Slices ![16 * n, 0] S16x1 := by
  refine ⟨rfl, fun a => ?_⟩
  match a with
  | ⟨0, _⟩ => show 16 * n + 16 ≤ 784; omega
  | ⟨1, _⟩ => show 0 + 1 ≤ 1; omega

/-- Chunk `n` of the position vectors: the sixteen rows from row `16 n`. -/
def chunk (pos : Memref sig .tc .vmem S784x2048 .bf16) (X : BufTy.Contents (Elt F) pos.view.ty) (n : ℕ) (h : n + 1 ≤ 49) :
    FVec F S16x2048 .bf16 :=
  shapeCast S16x2048
    (View.readAt (Elt F) pos.view (Rect.unit (s := S784x2048) ![16 * n, 0] S16x2048.size (chunk_inb n h)).toLoadRect X) shapeCasts_S16x2048_S16x2048

/-- The running sum over the first `n` chunks: of each chunk, the entries whose position's code has reached the flip code. -/
def sums (pos : Memref sig .tc .vmem S784x2048 .bf16) (X : BufTy.Contents (Elt F) pos.view.ty) (flip : FVec F S1x2048 .bf16)
    (col : FVec F S784x1 .bf16) : (n : ℕ) → n ≤ 49 → FVec F S16x2048 .bf16
  | 0, _ => broadcast S16x2048 (Scalar.ofBits .bf16 0x0000#16)
  | n + 1, h =>
    addf (sums pos X flip col n (Nat.le_of_succ_le h))
      (select
        (cmpf .oge (broadcastTo S16x2048 (extractStridedSlice S16x1 ![16 * n, 0] col (column_slices n h)) broadcasts_S16x1_S16x2048)
          (broadcastTo S16x2048 flip broadcasts_S1x2048_S16x2048))
        (chunk pos X n h) (broadcast S16x2048 (Scalar.ofBits .bf16 0x0000#16)))

/-- The row of the output the sums `acc` give: one where `base + diff · (sum of the sixteen rows)` is positive, minus one
    elsewhere. -/
def signRow (base diff : FVec F S1x2048 .f32) (acc : FVec F S16x2048 .bf16) : FVec F S1x1x2048 .f32 :=
  shapeCast S1x1x2048
    (select
      (cmpf .ogt
        (addf base
          (mulf diff
            (shapeCast S1x2048
              (multiReduction .add [0] S2048 (extf .f32 acc bitsLt_bf16_f32) 0x00000000#32 reduces_S16x2048_S2048 (.inl rfl) rfl)
              shapeCasts_S2048_S1x2048)))
        (broadcast S1x2048 (Scalar.ofBits .f32 0x00000000#32)))
      (broadcast S1x2048 (Scalar.ofBits .f32 0x3F800000#32)) (broadcast S1x2048 (Scalar.ofBits .f32 0xBF800000#32)))
    shapeCasts_S1x2048_S1x1x2048

/-- What trip `t` stores for its row `j`: the row, at the place of row `32 t + j` of the output. -/
def rowPiece (pos : Memref sig .tc .vmem S784x2048 .bf16) (X : BufTy.Contents (Elt F) pos.view.ty) (flip : FVec F S1x2048 .bf16)
    (code : FVec F S784x64 .f32) (lane : IVec S784x64 32) (base diff : FVec F S1x2048 .f32) (t : Fin k0_t1_loop.trips) (j : Fin 32) :
    View.Piece (Elt F) S64x1x2048 .f32 :=
  ⟨Rect.unit (s := S64x1x2048) (k0_off1 t (BitVec.ofNat 32 j.val)) S1x1x2048.size (k0_off1_inb t j),
    signRow base diff (sums pos X flip (column code lane t j) 49 (Nat.le_refl 49))⟩

end Cert.Encode

end
-- ==== Proof.Trip.lean ====
/- One trip of the kernel's loop stores the rows of the vocabulary (`rowPiece`). -/
module

public import proofs.«01_k».proof.Proof.Pieces
public import Idealize.ShloMosaic.Lib.Tactic

@[expose] public section

set_option maxRecDepth 65536

noncomputable section

namespace Cert.Encode

open Idealize.ShloMosaic Idealize.ShloMosaic.TcCoe Cert.KernelIdeal Cert.KernelIdeal.Gen

variable {F : FTy → Type} [FloatOps F]

set_option maxHeartbeats 4000000 in
/-- One trip stores its thirty-two rows, the last row first in the list. -/
theorem trip_pieces (𝒱 : Variants) (c : Dev nD) (bd : Option 𝒱.V) (arg0 : Memref sig .tc .vmem S784x64 .f32) (harg0 : arg0.IsWhole)
    (arg1 : Memref sig .tc .vmem S784x2048 .bf16) (harg1 : arg1.IsWhole) (arg2 : Memref sig .tc .vmem S1024x2048 .f32)
    (harg2 : arg2.IsWhole) (arg3 : Memref sig .tc .vmem S64x1x2048 .f32) (harg3 : arg3.IsWhole) (v18 : FVec F S784x64 .f32)
    (v19 : Vec F S1x2048 .f32) (v20 : Vec F S1x2048 .f32) (v35 : FVec F S1x2048 .bf16) (v180 : FVec F S16x2048 .bf16)
    (v181 : Vec F S16x2048 .bf16) (v189 : IVec S784x64 32) (X : BufTy.Contents (Elt F) arg1.view.ty) (t : Fin k0_t1_loop.trips) :
    tripL_k0_t1 (F := F) 𝒱 c bd arg0 harg0 arg1 harg1 arg2 harg2 arg3 harg3 v18 v19 v20 v35 v180 v181 v189 X t
      = [31, 30, 29, 28, 27, 26, 25, 24, 23, 22, 21, 20, 19, 18, 17, 16, 15, 14, 13, 12, 11, 10, 9, 8, 7, 6, 5, 4, 3, 2, 1, 0].map
          (rowPiece arg1 X v35 v18 v189 (k0_pay1 v19 v180 v181) (k0_pay2 v19 v20) t) := by
  sl_kernel_rfl

end Cert.Encode

end
-- ==== Proof.Block.lean ====
/- What the whole body stores: the rows of both trips of its loop, each from the blocks the body reads. -/
module

public import proofs.«01_k».proof.Proof.Trip
public import proofs.«01_k».proof.Proof.Gen.KernelIdeal.Frame

@[expose] public section

set_option maxRecDepth 65536

noncomputable section

namespace Cert.Encode

open Idealize.ShloMosaic Idealize.ShloMosaic.TcCoe Cert.KernelIdeal Cert.KernelIdeal.Gen

variable {F : FTy → Type} [FloatOps F]

/-- The running sum of the first `n` chunks of the position vectors. -/
def total (pos : Memref sig .tc .vmem S784x2048 .bf16) (X : BufTy.Contents (Elt F) pos.view.ty) :
    (n : ℕ) → n ≤ 49 → FVec F S16x2048 .bf16
  | 0, _ => broadcast S16x2048 (Scalar.ofBits .bf16 0x0000#16)
  | n + 1, h => addf (total pos X n (Nat.le_of_succ_le h)) (chunk pos X n h)

/-- The block of images the body reads, whole. -/
def imagesRead (arg0 : Memref sig .tc .vmem S784x64 .f32) (X : BufTy.Contents (Elt F) arg0.view.ty) : Vec F S784x64 .f32 :=
  View.readAt (Elt F) arg0.view (Rect.unit (s := S784x64) ![0, 0] S784x64.size inb_S784x64_S784x64_0_0).toLoadRect X

/-- The first row of the level table, the level of index 0. -/
def firstRead (arg2 : Memref sig .tc .vmem S1024x2048 .f32) (X : BufTy.Contents (Elt F) arg2.view.ty) : Vec F S1x2048 .f32 :=
  View.readAt (Elt F) arg2.view (Rect.unit (s := S1024x2048) ![0, 0] S1x2048.size inb_S1024x2048_S1x2048_0_0).toLoadRect X

/-- The last row of the level table, the level of index 1023. -/
def lastRead (arg2 : Memref sig .tc .vmem S1024x2048 .f32) (X : BufTy.Contents (Elt F) arg2.view.ty) : Vec F S1x2048 .f32 :=
  View.readAt (Elt F) arg2.view (Rect.unit (s := S1024x2048) ![1023, 0] S1x2048.size inb_S1024x2048_S1x2048_1023_0).toLoadRect X

/-- The level table the body reads, whole. -/
def tableRead (arg2 : Memref sig .tc .vmem S1024x2048 .f32) (X : BufTy.Contents (Elt F) arg2.view.ty) : Vec F S1024x2048 .f32 :=
  View.readAt (Elt F) arg2.view (Rect.unit (s := S1024x2048) ![0, 0] S1024x2048.size inb_S1024x2048_S1024x2048_0_0).toLoadRect X

/-- The first level times the sum of all position vectors: the bundled sum were every pixel at the first level. -/
def baseOf (first : Vec F S1x2048 .f32) (tot : FVec F S16x2048 .bf16) : FVec F S1x2048 .f32 :=
  mulf first
    (shapeCast S1x2048
      (multiReduction .add [0] S2048 (extf .f32 tot bitsLt_bf16_f32) 0x00000000#32 reduces_S16x2048_S2048 (.inl rfl) rfl)
      shapeCasts_S2048_S1x2048)

/-- The thirty-two rows trip `t` stores. -/
def tripRows (arg0 : Memref sig .tc .vmem S784x64 .f32) (X0 : BufTy.Contents (Elt F) arg0.view.ty)
    (arg1 : Memref sig .tc .vmem S784x2048 .bf16) (X1 : BufTy.Contents (Elt F) arg1.view.ty)
    (arg2 : Memref sig .tc .vmem S1024x2048 .f32) (X2 : BufTy.Contents (Elt F) arg2.view.ty) (t : Fin k0_t1_loop.trips) :
    List (View.Piece (Elt F) S64x1x2048 .f32) :=
  [31, 30, 29, 28, 27, 26, 25, 24, 23, 22, 21, 20, 19, 18, 17, 16, 15, 14, 13, 12, 11, 10, 9, 8, 7, 6, 5, 4, 3, 2, 1, 0].map
    (rowPiece arg1 X1 (k0_pay2038 (firstRead arg2 X2) (tableRead arg2 X2)) (k0_pay2037 (imagesRead arg0 X0))
      (iota .tc S784x64 32 [1] iota_S784x64_d1_w32)
      (baseOf (firstRead arg2 X2) (total arg1 X1 49 (Nat.le_refl 49)))
      (subf (lastRead arg2 X2) (firstRead arg2 X2)) t)

/-- The body stores the rows of the second trip over those of the first. -/
theorem body_pieces (c : Dev nD) (arg0 : Memref sig .tc .vmem S784x64 .f32) (harg0 : arg0.IsWhole)
    (arg1 : Memref sig .tc .vmem S784x2048 .bf16) (harg1 : arg1.IsWhole) (arg2 : Memref sig .tc .vmem S1024x2048 .f32)
    (harg2 : arg2.IsWhole) (arg3 : Memref sig .tc .vmem S64x1x2048 .f32) (harg3 : arg3.IsWhole)
    (x0 : Vec F S784x64 .f32) (x1 : Vec F S784x2048 .bf16) (x2 : Vec F S1024x2048 .f32) :
    (kernelRun0_A c arg0 harg0 arg1 harg1 arg2 harg2 arg3 harg3 x0 x1 x2).1
      = tripRows arg0 (harg0.unread x0) arg1 (harg1.unread x1) arg2 (harg2.unread x2) ⟨1, by decide⟩
        ++ (tripRows arg0 (harg0.unread x0) arg1 (harg1.unread x1) arg2 (harg2.unread x2) ⟨0, by decide⟩ ++ []) := by
  sl_kernel_rfl

end Cert.Encode

end
-- ==== Proof.Arith.lean ====
/- The arithmetic of the encoding: facts about sums of extended reals and about the float words that the kernel builds from small naturals. Nothing here
mentions a program. -/
module

public import Idealize.ShloMosaic.PureOps.Ideal
public import Mathlib.Data.EReal.Operations
public import Mathlib.Tactic.FieldSimp
public import Mathlib.Tactic.Positivity
public import Mathlib.Algebra.BigOperators.Fin
public import Mathlib.Order.Interval.Finset.Fin

@[expose] public section

noncomputable section

namespace Cert.Encode

open Idealize.ShloMosaic

/-! ## The code of a level -/

/-- The word of the code of level `v`: the word of `1.0` with `v` added to its upper half. -/
def codeWord (v : ℕ) : BitVec 32 := 1065353216#32 + BitVec.ofNat 32 v <<< 16

/-- What the code of level `v` is worth, in units of `2⁻⁷`: the low seven bits of `v` are a fraction below an
    implicit leading bit, the others an exponent. -/
def codeNat (v : ℕ) : ℕ := (128 + v % 128) * 2 ^ (v / 128)

/-- A larger level has a larger code. -/
theorem codeNat_strictMono : StrictMono codeNat := by
  refine strictMono_nat_of_lt_succ fun v => ?_
  unfold codeNat
  rcases Nat.lt_or_ge (v % 128) 127 with h | h
  · have h1 : (v + 1) % 128 = v % 128 + 1 := by omega
    have h2 : (v + 1) / 128 = v / 128 := by omega
    rw [h1, h2]
    exact Nat.mul_lt_mul_of_pos_right (by omega) (by positivity)
  · have h0 : v % 128 = 127 := by omega
    have h1 : (v + 1) % 128 = 0 := by omega
    have h2 : (v + 1) / 128 = v / 128 + 1 := by omega
    rw [h0, h1, h2, pow_succ]
    have : 0 < 2 ^ (v / 128) := by positivity
    omega

/-- The three fields of a code's word. -/
theorem codeWord_fields : ∀ v : Fin 1025, (codeWord v).extractLsb' 31 1 = 0#1
    ∧ ((codeWord v).extractLsb' 23 8).toNat = 127 + v / 128
    ∧ ((codeWord v).extractLsb' 0 23).toNat = v % 128 * 2 ^ 16 := by
  unfold codeWord
  decide +kernel

/-- The extended real that a code's word denotes. -/
theorem ofBits_codeWord (v : ℕ) (hv : v ≤ 1024) :
    Ideal.ofBits .f32 (codeWord v) = (((codeNat v : ℝ) / 128 : ℝ) : EReal) := by
  obtain ⟨h1, h2, h3⟩ := codeWord_fields ⟨v, by omega⟩
  simp only at h1 h2 h3
  have hd : v / 128 ≤ 8 := by omega
  show Ideal.ieee 8 23 (codeWord v) = _
  unfold Ideal.ieee
  simp only [Nat.reduceAdd]
  rw [h1, h2, h3]
  rw [if_neg (by omega), if_neg (by omega)]
  congr 1
  rw [if_neg (by decide)]
  unfold codeNat
  have hz : ((127 + v / 128 : ℕ) : ℤ) - (2 ^ (8 - 1) - 1) - (23 : ℕ) = ((v / 128 : ℕ) : ℤ) - 23 := by
    push_cast; norm_num
  rw [hz, zpow_sub₀ (by norm_num), zpow_natCast]
  push_cast
  field_simp
  ring

/-- Codes compare as the levels do. -/
theorem code_le_code {a b : ℕ} (ha : a ≤ 1024) (hb : b ≤ 1024) :
    Ideal.ofBits .f32 (codeWord a) ≤ Ideal.ofBits .f32 (codeWord b) ↔ a ≤ b := by
  rw [ofBits_codeWord a ha, ofBits_codeWord b hb, EReal.coe_le_coe_iff,
    div_le_div_iff_of_pos_right (by norm_num : (0 : ℝ) < 128), Nat.cast_le]
  exact codeNat_strictMono.le_iff_le

/-! ## A column of the level table -/

/-- A column that holds its first entry up to some row and its last entry from there on: the number of entries equal to
    the first is that row, so that row `i` holds the last entry exactly from the count on, or the two are equal. -/
theorem step_column {L : Fin 1024 → EReal} (hor : ∀ i, L i = L 0 ∨ L i = L (Fin.last 1023))
    (hpre : ∀ i j : Fin 1024, i.val + 1 = j.val → L j = L 0 → L i = L 0) (i : Fin 1024) :
    L i = if (Finset.univ.filter fun k => L k = L 0).card ≤ i.val then L (Fin.last 1023) else L 0 := by
  -- the entries equal to the first form a prefix
  have hdown : ∀ n : ℕ, ∀ (j : Fin 1024), L j = L 0 → ∀ k : Fin 1024, k.val + n = j.val → L k = L 0 := by
    intro n
    induction n with
    | zero => intro j hj k hk; rwa [show k = j from Fin.ext (by omega)]
    | succ n ih =>
      intro j hj k hk
      have hk1 : k.val + 1 < 1024 := by have := j.isLt; omega
      exact hpre k ⟨k.val + 1, hk1⟩ rfl (ih j hj ⟨k.val + 1, hk1⟩ (by simp only; omega))
  set S := Finset.univ.filter fun k => L k = L 0 with hS
  by_cases hi : L i = L 0
  · have hsub : Finset.Iic i ⊆ S := by
      intro k hk
      have hk' : k ≤ i := Finset.mem_Iic.mp hk
      rw [hS, Finset.mem_filter]
      exact ⟨Finset.mem_univ _, hdown (i.val - k.val) i hi k (by have : k.val ≤ i.val := hk'; omega)⟩
    have hc := Finset.card_le_card hsub
    rw [Fin.card_Iic] at hc
    rw [if_neg (by omega), hi]
  · have hsub : S ⊆ Finset.Iio i := by
      intro k hk
      rw [hS, Finset.mem_filter] at hk
      rw [Finset.mem_Iio]
      by_contra hlt
      have hle : i.val ≤ k.val := not_lt.mp hlt
      exact hi (hdown (k.val - i.val) k hk.2 i (by omega))
    have hc := Finset.card_le_card hsub
    rw [Fin.card_Iio] at hc
    rw [if_pos hc]
    exact (hor i).resolve_left hi

/-! ## The sum over positions -/

/-- A finite sum of reals is the sum of the same numbers as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With finite entries, the bound sum over positions is its value with every position at the first level, plus the
    difference of the two end levels times the sum over the positions that have passed the flip. -/
theorem bound_sum {ι : Type} [Fintype ι] (p : ι → EReal) (s e : EReal) (c : ι → Prop) [DecidablePred c]
    (hp : ∀ n, p n ≠ ⊤ ∧ p n ≠ ⊥) (hs : s ≠ ⊤ ∧ s ≠ ⊥) (he : e ≠ ⊤ ∧ e ≠ ⊥) :
    s * (∑ n, p n) + (e - s) * (∑ n, if c n then p n else 0) = ∑ n, p n * (if c n then e else s) := by
  lift s to ℝ using hs
  lift e to ℝ using he
  choose q hq using fun n => (⟨(p n).toReal, (EReal.coe_toReal (hp n).1 (hp n).2).symm⟩ : ∃ r : ℝ, p n = (r : EReal))
  have h1 : ∀ n, (if c n then p n else 0) = (((if c n then q n else 0 : ℝ)) : EReal) := by
    intro n; split_ifs <;> simp [hq]
  have h2 : ∀ n, p n * (if c n then (e : EReal) else (s : EReal)) = ((q n * (if c n then e else s) : ℝ) : EReal) := by
    intro n; rw [hq]; split_ifs <;> simp
  simp only [h1, h2]
  simp only [hq]
  rw [← coe_sum, ← coe_sum, ← coe_sum, ← EReal.coe_sub, ← EReal.coe_mul, ← EReal.coe_mul, ← EReal.coe_add]
  congr 1
  rw [Finset.mul_sum, Finset.mul_sum, ← Finset.sum_add_distrib]
  refine Finset.sum_congr rfl fun n _ => ?_
  split_ifs <;> ring

/-- Sixteen rows of forty-nine chunks are the 784 positions. -/
theorem sum_chunks (f : Fin 784 → EReal) :
    ∑ r : Fin 16, ∑ k : Fin 49, f ⟨16 * k.val + r.val, by omega⟩ = ∑ n, f n := by
  rw [Finset.sum_comm, ← Fintype.sum_prod_type']
  refine Fintype.sum_equiv (finProdFinEquiv (m := 49) (n := 16)) _ _ fun x => ?_
  congr 1
  apply Fin.ext
  simp [finProdFinEquiv]
  omega

end Cert.Encode

end
-- ==== Proof.Levels.lean ====
/- The level of a pixel, and what the two programs' words for levels and counts are worth. -/
module

public import proofs.«01_k».proof.Proof.Arith
public import Idealize.ShloMosaic.PureOps.Ideal.Laws
public import Idealize.ShloMosaic.Lib.IdealHost

@[expose] public section

noncomputable section

namespace Cert.Encode

open Idealize.ShloMosaic

/-- The word `0x447FC000` is 1023. -/
theorem ofBits_last : Ideal.ofBits .f32 0x447FC000#32 = ((1023 : ℝ) : EReal) := by
  show Ideal.ieee 8 23 0x447FC000#32 = _
  have h1 : (0x447FC000#32).extractLsb' 31 1 = 0#1 := by decide
  have h2 : ((0x447FC000#32).extractLsb' 23 8).toNat = 136 := by decide
  have h3 : ((0x447FC000#32).extractLsb' 0 23).toNat = 0x7FC000 := by decide
  unfold Ideal.ieee
  simp only [Nat.reduceAdd]
  rw [h1, h2, h3, if_neg (by omega), if_neg (by omega)]
  congr 1
  rw [if_neg (by decide)]
  norm_num

/-- The word converted from the value of a small natural is that natural's word. -/
theorem fptosi_nat (k : ℕ) (hk : k ≤ 1024) : Ideal.fptosi 32 ((k : ℝ) : EReal) = BitVec.ofNat 32 k := by
  unfold Ideal.fptosi
  rw [Ideal.toIntClamped_coe, if_pos (Nat.cast_nonneg k), Int.floor_natCast]
  have h : max (-((2 ^ (32 - 1) : ℕ) : ℤ)) (min (((2 ^ (32 - 1) : ℕ) : ℤ) - 1) (k : ℤ)) = (k : ℤ) := by
    norm_num
    omega
  rw [h]
  exact BitVec.ofInt_natCast 32 k

/-- A number clipped to 0 … 1023 is converted to the word of a natural at most 1023. -/
theorem fptosi_clip (y : EReal) : ∃ k : ℕ, k ≤ 1023 ∧ Ideal.fptosi 32 (min ((1023 : ℝ) : EReal) (max 0 y)) = BitVec.ofNat 32 k := by
  obtain ⟨r, hr⟩ : ∃ r : ℝ, min ((1023 : ℝ) : EReal) (max 0 y) = (r : EReal) := by
    refine ⟨(min ((1023 : ℝ) : EReal) (max 0 y)).toReal, (EReal.coe_toReal ?_ ?_).symm⟩
    · exact ne_top_of_le_ne_top (EReal.coe_ne_top 1023) (min_le_left _ _)
    · refine ne_bot_of_le_ne_bot (EReal.coe_ne_bot 0) (le_min ?_ ?_)
      · exact EReal.coe_le_coe_iff.mpr (by norm_num)
      · exact le_max_left _ _
  have h0 : 0 ≤ r := by
    rw [← EReal.coe_le_coe_iff, ← hr]
    refine le_min ?_ (le_max_left _ _)
    exact EReal.coe_le_coe_iff.mpr (by norm_num)
  have h1 : r ≤ 1023 := by
    rw [← EReal.coe_le_coe_iff, ← hr]
    exact min_le_left _ _
  have hf0 : 0 ≤ ⌊r⌋ := Int.floor_nonneg.mpr h0
  have hf1 : ⌊r⌋ ≤ 1023 := by
    have : ((⌊r⌋ : ℤ) : ℝ) ≤ ((1023 : ℤ) : ℝ) := (Int.floor_le r).trans (by exact_mod_cast h1)
    exact_mod_cast this
  refine ⟨⌊r⌋.toNat, by omega, ?_⟩
  rw [hr]
  unfold Ideal.fptosi
  rw [Ideal.toIntClamped_coe, if_pos h0]
  have h : max (-((2 ^ (32 - 1) : ℕ) : ℤ)) (min (((2 ^ (32 - 1) : ℕ) : ℤ) - 1) ⌊r⌋) = ((⌊r⌋.toNat : ℕ) : ℤ) := by
    norm_num
    omega
  rw [h]
  exact BitVec.ofInt_natCast 32 _

/-- The word of the level of a pixel: the pixel times 1023, rounded to the nearest integer and clipped to 0 … 1023. -/
def levelWord (x : EReal) : BitVec 32 :=
  Ideal.fptosi 32 (min ((1023 : ℝ) : EReal) (max 0 (Ideal.liftRound Ideal.roundHalfEven (Ideal.div x 1 * ((1023 : ℝ) : EReal)))))

/-- The level of a pixel. -/
def level (x : EReal) : ℕ := (levelWord x).toNat

/-- A level is a row of the table: at most 1023. -/
theorem level_le (x : EReal) : level x ≤ 1023 := by
  obtain ⟨k, hk, h⟩ := fptosi_clip (Ideal.liftRound Ideal.roundHalfEven (Ideal.div x 1 * ((1023 : ℝ) : EReal)))
  unfold level levelWord
  rw [h, BitVec.toNat_ofNat, Nat.mod_eq_of_lt (by omega)]
  exact hk

/-- The level's word is the word of the level. -/
theorem levelWord_eq (x : EReal) : levelWord x = BitVec.ofNat 32 (level x) := by
  unfold level
  simp

/-- A count of entries, as the sum of ones, is the natural's value. -/
theorem sum_ones {ι : Type} [Fintype ι] (c : ι → Prop) [DecidablePred c] :
    (∑ i, if c i then (1 : EReal) else 0) = (((Finset.univ.filter c).card : ℝ) : EReal) := by
  have h : ∀ i, (if c i then (1 : EReal) else 0) = ((if c i then (1 : ℝ) else 0 : ℝ) : EReal) := by
    intro i; split_ifs <;> simp
  simp only [h]
  rw [← coe_sum, Finset.sum_boole]

end Cert.Encode

end
-- ==== Proof.Values.lean ====
/- The values the body computes, over the extended reals, each read at an index: the codes, the flip codes, the running
   sums and the rows of signs; and from them what the body leaves in its block of the output. -/
module

public import proofs.«01_k».proof.Proof.Block
public import proofs.«01_k».proof.Proof.Levels
public import Idealize.ShloMosaic.Lib.Pointwise

@[expose] public section

set_option maxRecDepth 16384

noncomputable section

namespace Cert.Encode

open Idealize.ShloMosaic Idealize.ShloMosaic.TcCoe Cert.KernelIdeal Cert.KernelIdeal.Gen
open Idealize.ShloMosaic.Pointwise

/-- Position `r` of chunk `k`. -/
abbrev at16 (k : Fin 49) (r : Fin 16) : Fin 784 := ⟨16 * k.val + r.val, by omega⟩

/-- Row `j` of trip `t`. -/
abbrev at32 (t : Fin k0_t1_loop.trips) (j : Fin 32) : Fin 64 :=
  ⟨32 * t.val + j.val, by have h : k0_t1_loop.trips ≤ 2 := k0_t1_abs.2.1; omega⟩

/-- How many levels agree with the first one in component `d`. -/
def flipAt (L : Vec Ideal S1024x2048 .f32) (d : Fin 2048) : ℕ :=
  (Finset.univ.filter fun i : Fin 1024 => L (ix2 i d) = L (ix2 0 d)).card

/-- The bundled sum as the kernel adds it: every position at the first level, and the difference of the last level and
    the first for the positions whose pixel's level has reached the flip. -/
def bundled (xs : Vec Ideal S784x64 .f32) (p : Vec Ideal S784x2048 .bf16) (L : Vec Ideal S1024x2048 .f32) (b : Fin 64)
    (d : Fin 2048) : EReal :=
  (L (ix2 0 d) : EReal) * (∑ n : Fin 784, (p (ix2 n d) : EReal))
    + ((L (ix2 1023 d) : EReal) - (L (ix2 0 d) : EReal))
      * (∑ n : Fin 784, if flipAt L d ≤ level (xs (ix2 n b)) then (p (ix2 n d) : EReal) else 0)

/-- One where `v` is positive, minus one elsewhere. -/
def signOf (v : EReal) : EReal := if 0 < v then 1 else Ideal.ofBits .f32 0xBF800000#32

/-- The word of the number of row `j` of trip `t`, as the kernel computes it. -/
theorem row_word : ∀ (t : Fin k0_t1_loop.trips) (j : Fin 32),
    Scalar.addi (Scalar.muli (Scf.iv 0#32 1#32 t) 32#32) (BitVec.ofNat 32 j.val) = BitVec.ofNat 32 (32 * t.val + j.val) := by
  decide +kernel

/-- A column holds the codes of its row's pixels. -/
theorem column_apply (code : FVec Ideal S784x64 .f32) (t : Fin k0_t1_loop.trips) (j : Fin 32) (n : Fin 784) :
    column code (iota .tc S784x64 32 [1] iota_S784x64_d1_w32) t j (ix2 n 0) = code (ix2 n (at32 t j)) := by
  pointwise [column]
  rw [row_word]
  have h : ∀ x : Fin 64, Scalar.select (IntOp.cmpi .eq (BitVec.ofNat 32 x.val) (BitVec.ofNat 32 (32 * t.val + j.val)))
      (code (ix2 n x)) (0 : EReal) = if x = at32 t j then code (ix2 n x) else 0 := by
    intro x
    have hx : IntOp.cmpi .eq (BitVec.ofNat 32 x.val) (BitVec.ofNat 32 (32 * t.val + j.val))
        = BitVec.ofBool (decide (x = at32 t j)) := by
      have ht : 32 * t.val + j.val < 64 := (at32 t j).isLt
      show BitVec.ofBool (BitVec.ofNat 32 x.val == BitVec.ofNat 32 (32 * t.val + j.val)) = _
      congr 1
      rw [Bool.eq_iff_iff, beq_iff_eq, decide_eq_true_iff, Fin.ext_iff]
      constructor
      · intro h
        have := congrArg BitVec.toNat h
        simp only [BitVec.toNat_ofNat] at this
        show x.val = 32 * t.val + j.val
        omega
      · intro h
        rw [show x.val = 32 * t.val + j.val from h]
    rw [hx]
    by_cases hc : x = at32 t j
    · rw [if_pos hc, decide_eq_true hc]; rfl
    · rw [if_neg hc, decide_eq_false hc]; rfl
  rw [Finset.sum_congr rfl fun x _ => h x, Finset.sum_ite_eq' Finset.univ (at32 t j) fun x => (code (ix2 n x) : EReal)]
  simp

/-- The running sum over the first `n` chunks. -/
theorem sums_apply (pos : Memref sig .tc .vmem S784x2048 .bf16) (hpos : pos.IsWhole) (p : Vec Ideal S784x2048 .bf16)
    (flip : FVec Ideal S1x2048 .bf16) (col : FVec Ideal S784x1 .bf16) (r : Fin 16) (d : Fin 2048) : ∀ (n : ℕ) (h : n ≤ 49),
    sums pos (hpos.unread p) flip col n h (ix2 r d)
      = ∑ k : Fin n, if (flip (ix2 0 d) : EReal) ≤ col (ix2 (at16 ⟨k.val, by omega⟩ r) 0)
          then (p (ix2 (at16 ⟨k.val, by omega⟩ r) d) : EReal) else 0
  | 0, _ => by
    pointwise [sums]
    simp
  | n + 1, h => by
    rw [Fin.sum_univ_castSucc]
    unfold sums
    pointwise [chunk]
    rw [sums_apply pos hpos p flip col r d n (Nat.le_of_succ_le h), View.readAt_eq_ld, hpos.read_unread]
    pointwise
    rfl

/-- The running sum of the position vectors. -/
theorem total_apply (pos : Memref sig .tc .vmem S784x2048 .bf16) (hpos : pos.IsWhole) (p : Vec Ideal S784x2048 .bf16)
    (r : Fin 16) (d : Fin 2048) : ∀ (n : ℕ) (h : n ≤ 49),
    total pos (hpos.unread p) n h (ix2 r d) = ∑ k : Fin n, (p (ix2 (at16 ⟨k.val, by omega⟩ r) d) : EReal)
  | 0, _ => by
    pointwise [total]
    simp
  | n + 1, h => by
    rw [Fin.sum_univ_castSucc]
    unfold total
    pointwise [chunk]
    rw [total_apply pos hpos p r d n (Nat.le_of_succ_le h), View.readAt_eq_ld, hpos.read_unread]
    pointwise
    rfl

/-- A row of the output, from the sixteen rows of sums. -/
theorem signRow_apply (base diff : FVec Ideal S1x2048 .f32) (acc : FVec Ideal S16x2048 .bf16) (a b : Fin 1) (d : Fin 2048) :
    signRow base diff acc (ix3 a b d)
      = signOf ((base (ix2 0 d) : EReal) + (diff (ix2 0 d) : EReal) * ∑ r : Fin 16, (acc (ix2 r d) : EReal)) := by
  pointwise [signRow]
  rfl

/-- The sum were every pixel at the first level. -/
theorem baseOf_apply (first : Vec Ideal S1x2048 .f32) (tot : FVec Ideal S16x2048 .bf16) (d : Fin 2048) :
    baseOf first tot (ix2 0 d) = (first (ix2 0 d) : EReal) * ∑ r : Fin 16, (tot (ix2 r d) : EReal) := by
  pointwise [baseOf]

/-- The word of a level, shifted and added to the word of one, is the level's code. -/
theorem code_word (v : ℕ) : IntOp.addi 1065353216#32 (IntOp.shli .vector (BitVec.ofNat 32 v) 16#32) = codeWord v := by
  unfold codeWord
  rfl

/-- The code of a pixel is that of its level. -/
theorem codes_apply (x : Vec Ideal S784x64 .f32) (n : Fin 784) (b : Fin 64) :
    k0_pay2037 x (ix2 n b) = Ideal.ofBits .f32 (codeWord (level (x (ix2 n b)))) := by
  pointwise [k0_pay2037]
  rw [ofBits_last]
  show Ideal.ofBits .f32 (IntOp.addi 1065353216#32 (IntOp.shli .vector (levelWord (x (ix2 n b))) 16#32)) = _
  rw [levelWord_eq, code_word]

/-- The flip code of a component is the code of the number of levels that agree with the first. -/
theorem flips_apply (s : Vec Ideal S1x2048 .f32) (L : Vec Ideal S1024x2048 .f32) (d : Fin 2048)
    (hs : s (ix2 0 d) = L (ix2 0 d)) : k0_pay2038 s L (ix2 0 d) = Ideal.ofBits .f32 (codeWord (flipAt L d)) := by
  pointwise [k0_pay2038]
  rw [sum_ones (fun i : Fin 1024 => (L (ix2 i d) : EReal) = s (ix2 0 d)), hs]
  show Ideal.ofBits .f32 (IntOp.addi 1065353216#32 (IntOp.shli .vector (Ideal.fptosi 32 ((flipAt L d : ℝ) : EReal)) 16#32)) = _
  rw [fptosi_nat, code_word]
  exact (Finset.card_le_univ _).trans (by simp)

/-- The first and the last row of the table, and the images and the table read whole. -/
theorem firstRead_apply (arg2 : Memref sig .tc .vmem S1024x2048 .f32) (harg2 : arg2.IsWhole) (L : Vec Ideal S1024x2048 .f32)
    (d : Fin 2048) : firstRead arg2 (harg2.unread L) (ix2 0 d) = L (ix2 0 d) := by
  unfold firstRead
  rw [View.readAt_eq_ld, harg2.read_unread]
  pointwise

/-- The last row read. -/
theorem lastRead_apply (arg2 : Memref sig .tc .vmem S1024x2048 .f32) (harg2 : arg2.IsWhole) (L : Vec Ideal S1024x2048 .f32)
    (d : Fin 2048) : lastRead arg2 (harg2.unread L) (ix2 0 d) = L (ix2 1023 d) := by
  unfold lastRead
  rw [View.readAt_eq_ld, harg2.read_unread]
  pointwise

/-- The table read whole is the table. -/
theorem tableRead_eq (arg2 : Memref sig .tc .vmem S1024x2048 .f32) (harg2 : arg2.IsWhole) (L : Vec Ideal S1024x2048 .f32) :
    tableRead arg2 (harg2.unread L) = L := by
  unfold tableRead
  rw [View.readAt_eq_ld, harg2.read_unread]
  exact View.ld_unit_zero (S := S1024x2048) (by decide) ..

/-- The images read whole are the images. -/
theorem imagesRead_eq (arg0 : Memref sig .tc .vmem S784x64 .f32) (harg0 : arg0.IsWhole) (xs : Vec Ideal S784x64 .f32) :
    imagesRead arg0 (harg0.unread xs) = xs := by
  unfold imagesRead
  rw [View.readAt_eq_ld, harg0.read_unread]
  exact View.ld_unit_zero (S := S784x64) (by decide) ..

/-- Row `j` of trip `t` holds the signs of the bundled sums of image `32 t + j`. -/
theorem row_apply (arg0 : Memref sig .tc .vmem S784x64 .f32) (harg0 : arg0.IsWhole)
    (arg1 : Memref sig .tc .vmem S784x2048 .bf16) (harg1 : arg1.IsWhole) (arg2 : Memref sig .tc .vmem S1024x2048 .f32)
    (harg2 : arg2.IsWhole) (xs : Vec Ideal S784x64 .f32) (p : Vec Ideal S784x2048 .bf16) (L : Vec Ideal S1024x2048 .f32)
    (t : Fin k0_t1_loop.trips) (j : Fin 32) (a b : Fin 1) (d : Fin 2048) :
    (rowPiece arg1 (harg1.unread p) (k0_pay2038 (firstRead arg2 (harg2.unread L)) (tableRead arg2 (harg2.unread L)))
      (k0_pay2037 (imagesRead arg0 (harg0.unread xs))) (iota .tc S784x64 32 [1] iota_S784x64_d1_w32)
      (baseOf (firstRead arg2 (harg2.unread L)) (total arg1 (harg1.unread p) 49 (Nat.le_refl 49)))
      (subf (lastRead arg2 (harg2.unread L)) (firstRead arg2 (harg2.unread L))) t j).2 (ix3 a b d)
    = signOf (bundled xs p L (at32 t j) d) := by
  unfold rowPiece
  dsimp only
  rw [signRow_apply, baseOf_apply, firstRead_apply, imagesRead_eq, tableRead_eq]
  have hd : (subf (lastRead arg2 (harg2.unread L)) (firstRead arg2 (harg2.unread L)) : FVec Ideal S1x2048 .f32) (ix2 0 d)
      = (L (ix2 1023 d) : EReal) - (L (ix2 0 d) : EReal) := by
    pointwise
    rw [firstRead_apply, lastRead_apply]
  rw [hd]
  unfold bundled
  congr 2
  · congr 1
    rw [← sum_chunks fun n => (p (ix2 n d) : EReal)]
    exact Finset.sum_congr rfl fun r _ => total_apply arg1 harg1 p r d 49 _
  · congr 1
    rw [← sum_chunks fun n => if flipAt L d ≤ level (xs (ix2 n (at32 t j))) then (p (ix2 n d) : EReal) else 0]
    refine Finset.sum_congr rfl fun r _ => ?_
    rw [sums_apply arg1 harg1 p _ _ r d 49]
    refine Finset.sum_congr rfl fun k _ => ?_
    rw [flips_apply _ L d (firstRead_apply arg2 harg2 L d), column_apply, codes_apply]
    have hf : flipAt L d ≤ 1024 := (Finset.card_le_univ _).trans (by simp)
    have hl := level_le (xs (ix2 (at16 ⟨k.val, by omega⟩ r) (at32 t j)))
    exact if_congr (code_le_code hf (by omega)) rfl rfl

/-- What the body leaves in its block of the output: in row `b` the signs of the bundled sums of image `b`. -/
theorem block_apply (c : Dev nD) (arg0 : Memref sig .tc .vmem S784x64 .f32) (harg0 : arg0.IsWhole)
    (arg1 : Memref sig .tc .vmem S784x2048 .bf16) (harg1 : arg1.IsWhole) (arg2 : Memref sig .tc .vmem S1024x2048 .f32)
    (harg2 : arg2.IsWhole) (arg3 : Memref sig .tc .vmem S64x1x2048 .f32) (harg3 : arg3.IsWhole)
    (xs : Vec Ideal S784x64 .f32) (p : Vec Ideal S784x2048 .bf16) (L : Vec Ideal S1024x2048 .f32) (y : S64x1x2048.Idx) :
    out0_A_3 c arg0 harg0 arg1 harg1 arg2 harg2 arg3 harg3 xs p L y = signOf (bundled xs p L (y 0) (y 2)) := by
  unfold out0_A_3
  have hcover := cover0_A_3 c arg0 harg0 arg1 harg1 arg2 harg2 arg3 harg3 xs p L
  rw [View.read_writes_eq_canon _ _ _ hcover]
  refine View.canon_apply_of_pieces (fun y : S64x1x2048.Idx => signOf (bundled xs p L (y 0) (y 2))) _ ?_ y (hcover y)
  rw [body_pieces]
  have hrow : ∀ (t : Fin k0_t1_loop.trips) (pc : View.Piece (Elt Ideal) S64x1x2048 .f32),
      pc ∈ tripRows arg0 (harg0.unread xs) arg1 (harg1.unread p) arg2 (harg2.unread L) t →
      ∀ x : pc.1.shape.Idx, pc.2 x = signOf (bundled xs p L (pc.1.emb x 0) (pc.1.emb x 2)) := by
    intro t pc hpc
    obtain ⟨j, -, rfl⟩ := List.mem_map.mp hpc
    intro x
    obtain ⟨a, b, d, rfl⟩ : ∃ (a b : Fin 1) (d : Fin 2048), x = ix3 a b d := ⟨x 0, x 1, x 2, eq_ix3 x⟩
    rw [row_apply]
    congr 2
    · apply Fin.ext
      show 32 * t.val + j.val = (k0_off1 t (BitVec.ofNat 32 j.val)) 0 + 1 * a.val
      rw [k0_off1_eq]
      have := a.isLt
      show 32 * t.val + j.val = 32 * t.val + j.val + 1 * a.val
      omega
    · apply Fin.ext
      show d.val = (k0_off1 t (BitVec.ofNat 32 j.val)) 2 + 1 * d.val
      rw [k0_off1_eq]
      show d.val = 0 + 1 * d.val
      omega
  intro pc hpc
  rcases List.mem_append.mp hpc with h | h
  · exact hrow _ pc h
  · rw [List.append_nil] at h
    exact hrow _ pc h

end Cert.Encode

end
-- ==== Proof.Run.lean ====
/- The kernel's run, read: its one result at what the block values give, the arguments unchanged. -/
module

public import proofs.«01_k».proof.Proof.Values
public import Idealize.ShloMosaic.Lib.Pipeline.Value
public import Idealize.ShloMosaic.Lib.StableHlo.Run

@[expose] public section

set_option maxRecDepth 16384

noncomputable section

namespace Cert.Encode

open Idealize.ShloMosaic Idealize.ShloMosaic.TcCoe Idealize.SL.Sem Cert.KernelIdeal Cert.KernelIdeal.Gen
open Idealize.ShloMosaic.Pipeline (Dat)
open Idealize.ShloMosaic.Pointwise

variable (m : (ℓ : Loc nD τ sig) → Buf (Elt Ideal) ℓ) (ρ : Dev nD → PrngReg)

/-- The images as the kernel's region finds them: flattened, positions by images. -/
def flatImages (x : Vec Ideal S64x28x28 .f32) : Vec Ideal S784x64 .f32 :=
  transpose S784x64 [1, 0] (shapeCast S64x784 x shapeCasts_S64x28x28_S64x784) transposes_S64x784_S784x64_1_0

/-- The position vectors as the kernel's region finds them, cast. -/
def castPositions (p : Vec Ideal S784x2048 .f32) : Vec Ideal S784x2048 .bf16 := truncf (F := Ideal) .bf16 p bitsLt_bf16_f32

/-- The signs of the bundled sums, as the region leaves them. -/
def signs3 (x : Vec Ideal S64x28x28 .f32) (p : Vec Ideal S784x2048 .f32) (L : Vec Ideal S1024x2048 .f32) :
    Vec Ideal S64x1x2048 .f32 :=
  fun y => signOf (bundled (flatImages x) (castPositions p) L (y 0) (y 2))

/-- The images flattened, in the buffer the region stages. -/
theorem region_images (c : Dev nD) : V m c main_v1 = flatImages (m ((c : Thread nD τ).loc main_arg0)) := by
  unfold V V0 hostOps0
  after_results
  rfl

/-- The position vectors cast, in the buffer the region stages. -/
theorem region_positions (c : Dev nD) : V m c main_v2 = castPositions (m ((c : Thread nD τ).loc main_arg1)) := by
  unfold V V0 hostOps0
  after_results
  rfl

/-- Each input's block is its whole array. -/
theorem block_images (c : Dev nD) : iblk m c 0 t0_0 = flatImages (m ((c : Thread nD τ).loc main_arg0)) := by
  have hz : (fun a => win0_0.index t0_0 a * main_v1.ty.shape.size a) = fun _ => 0 := funext fun a => by fin_cases a <;> decide
  refine Eq.trans ?_ (region_images m c)
  exact Memref.read_access_unit_zero (Elt Ideal) main_v1 hz (fun a => by rw [congrFun hz a]; simp) (V m c main_v1)

/-- The position vectors' block is the whole array. -/
theorem block_positions (c : Dev nD) : iblk m c 1 t0_0 = castPositions (m ((c : Thread nD τ).loc main_arg1)) := by
  have hz : (fun a => win0_1.index t0_0 a * main_v2.ty.shape.size a) = fun _ => 0 := funext fun a => by fin_cases a <;> decide
  refine Eq.trans ?_ (region_positions m c)
  exact Memref.read_access_unit_zero (Elt Ideal) main_v2 hz (fun a => by rw [congrFun hz a]; simp) (V m c main_v2)

/-- The level table's block is the whole table. -/
theorem block_levels (c : Dev nD) : iblk m c 2 t0_0 = m ((c : Thread nD τ).loc main_arg2) := by
  have hz : (fun a => win0_2.index t0_0 a * main_arg2.ty.shape.size a) = fun _ => 0 := funext fun a => by fin_cases a <;> decide
  refine Eq.trans ?_ (V_main_arg2 m c)
  exact Memref.read_access_unit_zero (Elt Ideal) main_arg2 hz (fun a => by rw [congrFun hz a]; simp) (V m c main_arg2)

/-- What the region's result array ends holding. -/
abbrev regionResult (c : Dev nD) : Buf (Elt Ideal) ((c : Thread nD τ).loc main_v3) :=
  signs3 (m ((c : Thread nD τ).loc main_arg0)) (m ((c : Thread nD τ).loc main_arg1)) (m ((c : Thread nD τ).loc main_arg2))

/-- The region's one step leaves the signs in its output block. -/
theorem outsAt_eq (c : Dev nD) : outsAt0 m c t0_0 = regionResult m c := by
  unfold outsAt0
  funext y
  rw [block_apply, block_images, block_positions, block_levels]
  rfl

/-- The one write-back writes it, whole. -/
theorem flushed_eq (c : Dev nD) (t : Fin cfg0.N) (_ : (cfg0.win 3).flush t = true) :
    (dats m 0 c).flushed 3 t = ((cfg0.win 3).blk t).view.read (Elt Ideal) (regionResult m c) := by
  obtain rfl : t = t0_0 := fin_N0 t
  show (cfg0.win 3).cut (grid0.coords t0_0) ((dats m 0 c).after 3 t0_0) = _
  rw [after0_3, outsAt_eq]
  have hz : (fun a => win0_3.index t0_0 a * main_v3.ty.shape.size a) = fun _ => 0 := funext fun a => by fin_cases a <;> decide
  exact (Memref.read_access_unit_zero (Elt Ideal) main_v3 hz (fun a => by rw [congrFun hz a]; simp) (regionResult m c)).symm

/-- So the array ends holding it: the one point's block is the array. -/
theorem array_eq (c : Dev nD) : (dats m 0 c).arrAt 3 cfg0.N = regionResult m c :=
  (dats m 0 c).arrAt_eq_of_cover 3 (regionResult m c) (flushed_eq m c) fun i =>
    ⟨t0_0, flush0_3 t0_0, by
      show i ∈ ((View.whole main_v3).slice (win0_3.rect t0_0)).set
      rw [View.set_slice_whole, Rect.mem_set_unit]
      intro a
      have h0 : win0_3.index t0_0 a * win0_3.size a = 0 := by revert a; decide +kernel
      have h1 : win0_3.xsize (grid0.coords t0_0) a = main_v3.ty.shape.size a := by revert a; decide +kernel
      have hlt : (i a : Nat) < main_v3.ty.shape.size a := (i a).isLt
      show win0_3.index t0_0 a * win0_3.size a ≤ (i a : Nat)
        ∧ (i a : Nat) < win0_3.index t0_0 a * win0_3.size a + win0_3.xsize (grid0.coords t0_0) a
      rw [h0, h1]
      omega⟩

/-- The kernel's result: the signs, with the unit axis dropped. -/
abbrev kernelResult (c : Dev nD) : Buf (Elt Ideal) ((c : Thread nD τ).loc main_v4) :=
  shapeCast S64x2048 (regionResult m c) shapeCasts_S64x1x2048_S64x2048

/-- After the last line the result buffer holds it. -/
theorem tail_eq (c : Dev nD) : Pipeline.afterTail₀ cfgs (dats m) 0 (V0 m) [hostOps1] c main_v4 = kernelResult m c := by
  unfold Pipeline.afterTail₀
  rw [show ([hostOps1] : List (List (HloOp τ sig (Elt Ideal)))).flatten = hostOps1 from rfl]
  after_results
  funext i
  show shapeCast S64x2048 (Pipeline.withArrays cfg0.spec c (V0 m c) (fun w => (dats m 0 c).arrAt w cfg0.N)
    (Proc.devRef .tc (Pipeline.arrRef spec0 3)) : Vec Ideal S64x1x2048 .f32) shapeCasts_S64x1x2048_S64x2048 i = kernelResult m c i
  have h : Pipeline.withArrays cfg0.spec c (V0 m c) (fun w => (dats m 0 c).arrAt w cfg0.N)
      (Proc.devRef .tc (Pipeline.arrRef spec0 3)) = regionResult m c :=
    (Pipeline.withArrays_arr cfg0.spec winFacts0.arr_inj c (V0 m c) (fun w => (dats m 0 c).arrAt w cfg0.N) 3).trans (array_eq m c)
  exact congrArg (fun v : Vec Ideal S64x1x2048 .f32 => shapeCast S64x2048 v shapeCasts_S64x1x2048_S64x2048 i) h

/-- The kernel's run: the result at the signs of the bundled sums, the arguments as launched. -/
theorem kernel_run : θ_run defs (onTc (τ := τ) (main (F := Ideal))) ⟨m, fun _ => 0, ρ⟩ (fun r => ∀ c : Dev nD,
      r.2.mem ((c.tc : Thread nD τ).loc main_v4) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ⟨?_, h.2 c⟩) (θ_run_and (run_main m ρ) (unchanged m ρ))
  exact ((h.1 c).2 main_v4 (Pipeline.mem_restRefs_of main_v4 (by decide) (by decide))).trans (tail_eq m c)

end Cert.Encode

end
-- ==== Proof.Reference.lean ====
/- The reference's one result, read at an index. -/
module

public import proofs.«01_k».proof.Proof.Values
public import proofs.«01_k».proof.Proof.Gen.ReferenceIdeal.Read
public import Idealize.ShloMosaic.Lib.Pointwise

@[expose] public section

set_option maxRecDepth 16384

noncomputable section

namespace Cert.Encode

open Idealize.ShloMosaic Cert.ReferenceIdeal Cert.ReferenceIdeal.Gen Cert.ReferenceIdeal.Read
open Idealize.ShloMosaic.Pointwise

/-- Pixel `n` of an image, its rows laid end to end. -/
def pixel (x : Vec Ideal S64x28x28 .f32) (b : Fin 64) (n : Fin 784) : EReal :=
  x (ix3 b ⟨n.val / 28, by omega⟩ ⟨n.val % 28, by omega⟩)

/-- The signed reading of a small natural's word is that natural. -/
theorem toInt_small (k : ℕ) (hk : k ≤ 1023) : (BitVec.ofNat 32 k).toInt = (k : ℤ) := by
  rw [BitVec.toInt_eq_toNat_cond, BitVec.toNat_ofNat, Nat.mod_eq_of_lt (by omega), if_pos (by omega)]

/-- The word of each pixel's index into the level table is its level's word. -/
theorem index_word (x : Vec Ideal S64x28x28 .f32) (b : Fin 64) (n : Fin 784) :
    val_main_v9 (F := Ideal) x (ix2 b n) = levelWord (pixel x b n) := by
  have hx : val_main_v0 (F := Ideal) x (ix2 b n) = pixel x b n := by
    rw [val_main_v0_apply]
    unfold pixel
    congr 1
    funext a
    apply Fin.ext
    match a with
    | ⟨0, _⟩ => show (b.val * 784 + n.val) / 784 = b.val; omega
    | ⟨1, _⟩ => show (b.val * 784 + n.val) / 28 % 28 = n.val / 28; omega
    | ⟨2, _⟩ => show (b.val * 784 + n.val) % 28 = n.val % 28; omega
  simp only [val_main_v9_apply, val_main_v8_apply, val_main_call1_v4_apply, val_main_call1_v3_apply, val_main_c_2_apply,
    val_main_call1_v2_apply, val_main_call1_v1_apply, val_main_call1_v0_apply, val_main_c_apply, val_main_v7_apply,
    val_main_v6_apply, val_main_v5_apply, val_main_cst_1_apply, val_main_v4_apply, val_main_v3_apply, val_main_cst_0_apply,
    val_main_v2_apply, val_main_v1_apply, val_main_cst_apply, hx]
  show Ideal.fptosi 32 (min (((1023#32 : BitVec 32).toInt : ℝ) : EReal) (max (((0#32 : BitVec 32).toInt : ℝ) : EReal)
    (Ideal.liftRound Ideal.roundHalfEven (Ideal.div (pixel x b n - Ideal.ofBits .f32 0#32) (Ideal.ofBits .f32 1065353216#32)
      * Ideal.ofBits .f32 1149222912#32)))) = _
  have h0 : Ideal.ofBits .f32 0#32 = 0 := Ideal.ofBits_zero_f32
  have h1 : Ideal.ofBits .f32 1065353216#32 = 1 := Ideal.ofBits_one_f32
  have h2 : Ideal.ofBits .f32 1149222912#32 = ((1023 : ℝ) : EReal) := ofBits_last
  have h3 : (((1023#32 : BitVec 32).toInt : ℝ) : EReal) = ((1023 : ℝ) : EReal) := by
    rw [show (1023#32 : BitVec 32).toInt = 1023 by decide]; norm_num
  have h4 : (((0#32 : BitVec 32).toInt : ℝ) : EReal) = 0 := by
    rw [show (0#32 : BitVec 32).toInt = 0 by decide]; norm_num
  rw [h0, h1, h2, h3, h4, sub_zero]
  rfl

/-- The index is a small nonnegative word, so that it is kept as it is. -/
theorem kept_word (x : Vec Ideal S64x28x28 .f32) (b : Fin 64) (n : Fin 784) (o : Fin 1) :
    val_main_call2_v5 (F := Ideal) x (ix3 b n o) = BitVec.ofNat 32 (level (pixel x b n)) := by
  have hi : idx_main_call2_v5 (ix3 b n o) = ix2 b n := by
    funext a
    match a with
    | ⟨0, _⟩ => rfl
    | ⟨1, _⟩ => rfl
  rw [val_main_call2_v5_apply, hi, val_main_call2_v4_apply, val_main_call2_v1_apply, val_main_call2_v0_apply, val_main_call2_c_apply,
    index_word, levelWord_eq]
  have hl := level_le (pixel x b n)
  have hneg : IntOp.cmpi .slt (BitVec.ofNat 32 (level (pixel x b n))) 0#32 = 0#1 := by
    generalize level (pixel x b n) = k at hl
    show BitVec.ofBool ((BitVec.ofNat 32 k).slt 0#32) = 0#1
    have : (BitVec.ofNat 32 k).slt 0#32 = false := by
      rw [BitVec.slt, toInt_small _ (by omega)]
      simp
    rw [this]; rfl
  rw [hneg]
  rfl

/-- Every index is in the table. -/
theorem in_table (x : Vec Ideal S64x28x28 .f32) (b : Fin 64) (n : Fin 784) :
    val_main_call2_v12 (F := Ideal) x (ix2 b n) = 1#1 := by
  have each : ∀ o : Fin 1, val_main_call2_v11 (F := Ideal) x (ix3 b n o) = 1#1 := by
    intro o
    rw [val_main_call2_v11_apply, val_main_call2_v7_apply, val_main_call2_v10_apply, val_main_call2_v6_apply, val_main_call2_v9_apply,
      val_main_call2_v8_apply, val_main_call2_c_2_apply, val_main_call2_c_1_apply, kept_word]
    have hl := level_le (pixel x b n)
    generalize level (pixel x b n) = k at hl
    have low : (0#32).sle (BitVec.ofNat 32 k) = true := by
      rw [BitVec.sle, toInt_small k (by omega)]
      simp
    have high : (BitVec.ofNat 32 k).sle 1023#32 = true := by
      rw [BitVec.sle, toInt_small _ (by omega), show (1023#32 : BitVec 32).toInt = 1023 by decide]
      simp
      omega
    show BitVec.ofBool ((0#32).sle (BitVec.ofNat 32 k)) &&& BitVec.ofBool ((BitVec.ofNat 32 k).sle 1023#32) = 1#1
    rw [low, high]; rfl
  pointwise [val_main_call2_v12]
  simp only [each]
  rfl

/-- The row of the table that the reference takes for a pixel. -/
theorem taken (x : Vec Ideal S64x28x28 .f32) (L : Vec Ideal S1024x2048 .f32) (b : Fin 64) (n : Fin 784) (d : Fin 2048) :
    val_main_call2_v13 (F := Ideal) x L (ix3 b n d) = L (ix2 ⟨level (pixel x b n), by have := level_le (pixel x b n); omega⟩ d) := by
  have hl := level_le (pixel x b n)
  have row : gather_S1024x2048_S64x784x1_S64x784x2048_2_0_n_n_0_2_12048.start (ix3 b n d) (val_main_call2_v5 (F := Ideal) x) 0
      = level (pixel x b n) := by
    have hw : ∀ i : S64x784x1.Idx, i = ix3 b n 0 →
        min (val_main_call2_v5 (F := Ideal) x i).toInt.toNat 1023 = level (pixel x b n) := by
      rintro _ rfl
      rw [kept_word, toInt_small _ (by omega)]
      simp only [Int.toNat_natCast]
      omega
    unfold GatherDims.start
    rw [dif_pos (show (0 : Fin S1024x2048.rank) ∈ gather_S1024x2048_S64x784x1_S64x784x2048_2_0_n_n_0_2_12048.startIndexMap
      from List.mem_singleton.mpr rfl)]
    refine hw _ ?_
    funext a
    match a with
    | ⟨0, _⟩ => rfl
    | ⟨1, _⟩ => rfl
    | ⟨2, _⟩ => rfl
  unfold val_main_call2_v13 Host.gather
  congr 1
  funext a
  apply Fin.ext
  unfold GatherDims.operandIdx
  match a with
  | ⟨0, _⟩ => exact row
  | ⟨1, _⟩ => exact (Nat.zero_add _)

/-- THE REFERENCE AT `(b, d)`: the sign of the sum, over the pixels, of the position's entry times the entry of the row of the
    pixel's level. -/
theorem reference_apply (x : Vec Ideal S64x28x28 .f32) (p : Vec Ideal S784x2048 .f32) (L : Vec Ideal S1024x2048 .f32)
    (b : Fin 64) (d : Fin 2048) :
    val_main_v18 (F := Ideal) x p L (ix2 b d)
      = signOf (∑ n : Fin 784, p (ix2 n d) * L (ix2 ⟨level (pixel x b n), by have := level_le (pixel x b n); omega⟩ d)) := by
  have term : ∀ n : Fin 784, val_main_v13 (F := Ideal) x p L (ix3 b n d)
      = p (ix2 n d) * L (ix2 ⟨level (pixel x b n), by have := level_le (pixel x b n); omega⟩ d) := by
    intro n
    have hi : idx_main_call2_v14 (ix3 b n d) = ix2 b n := by
      funext a
      match a with
      | ⟨0, _⟩ => rfl
      | ⟨1, _⟩ => rfl
    have hp : val_main_v12 (F := Ideal) p (ix3 b n d) = p (ix2 n d) := by
      pointwise [val_main_v12, val_main_v11]
    have hr : val_main_v10 (F := Ideal) x L (ix3 b n d)
        = L (ix2 ⟨level (pixel x b n), by have := level_le (pixel x b n); omega⟩ d) := by
      rw [val_main_v10_apply, val_main_call2_v14_apply, hi, in_table, taken]
      rfl
    rw [val_main_v13_apply, hp, hr]
    rfl
  have sum : val_main_v14 (F := Ideal) x p L (ix2 b d) = ∑ n : Fin 784, val_main_v13 (F := Ideal) x p L (ix3 b n d) := by
    rw [val_main_v14_apply]
    have hz : val_main_cst_3 (F := Ideal) (Shape.Idx.first h_S_) = 0 := Ideal.ofBits_zero_f32
    rw [hz, zero_add]
    refine Finset.sum_congr rfl fun k _ => congrArg _ (funext fun a => ?_)
    match a with
    | ⟨0, _⟩ => rfl
    | ⟨1, _⟩ => rfl
    | ⟨2, _⟩ => rfl
  simp only [term] at sum
  generalize (∑ n : Fin 784, p (ix2 n d) * L (ix2 ⟨level (pixel x b n), by have := level_le (pixel x b n); omega⟩ d)) = s at sum
  rw [val_main_v18_apply, val_main_v17_apply, val_main_v16_apply, sum]
  unfold signOf
  pointwise [val_main_v15, val_main_cst_4, val_main_call3_v0, val_main_call3_v1, val_main_cst_5, val_main_cst_6]

end Cert.Encode

end
-- ==== Proof.Precondition.lean ====
/- What the precondition says of the arrays. -/
module

public import proofs.«01_k».proof.Pre_level_table
public import proofs.«01_k».proof.Proof.Values
public import Idealize.ShloMosaic.Lib.Pointwise

@[expose] public section

set_option maxRecDepth 16384

noncomputable section

namespace Cert.Encode

open Idealize.ShloMosaic Cert.Pre_level_table
open Idealize.ShloMosaic.Pointwise

/-- The precondition's shape facts. -/
theorem pre_facts : Cert.Pre_level_table.Facts where
  slices_S1024x2048_S1x2048_0_0 := by decide
  slices_S1024x2048_S1x2048_1023_0 := by decide
  bcast_S1x2048_S1024x2048_0_1 := by decide
  bcast_S_S784x2048 := by decide
  bcast_S_S1024x2048 := by decide
  slices_S1024x2048_S1023x2048_0_0 := by decide
  slices_S1024x2048_S1023x2048_1_0 := by decide

variable [Cert.Pre_level_table.Facts]

/-- A number whose absolute value is below the infinity is finite. -/
theorem finite_of_bit {v : EReal}
    (h : BitVec.ofBool (decide (FloatOps.absf (F := Ideal) (φ := .f32) v < Ideal.ofBits .f32 2139095040#32)) = 1#1) :
    v ≠ ⊤ ∧ v ≠ ⊥ := by
  have ht : Ideal.ofBits .f32 2139095040#32 = ⊤ := by simp [Ideal.ofBits, Ideal.ieee]
  rw [ht] at h
  have hlt : max v (-v) < ⊤ := by
    by_contra hn
    have hd : decide (FloatOps.absf (F := Ideal) (φ := .f32) v < (⊤ : EReal)) = false := decide_eq_false hn
    rw [hd] at h
    exact absurd h (by decide)
  constructor
  · rintro rfl
    simp at hlt
  · rintro rfl
    simp at hlt

/-- The precondition's four arrays of bits all ones: the position vectors and the table finite, every entry of the table
    equal to the first or the last of its column, and the entries equal to the first one unbroken run from the top. -/
theorem pre_reads (x : FVec Ideal S64x28x28 .f32) (p : FVec Ideal S784x2048 .f32) (L : FVec Ideal S1024x2048 .f32)
    (h1 : (fn (F := Ideal) x p L).1 = fun _ => 1#1) (h2 : (fn (F := Ideal) x p L).2.1 = fun _ => 1#1)
    (h3 : (fn (F := Ideal) x p L).2.2.1 = fun _ => 1#1) (h4 : (fn (F := Ideal) x p L).2.2.2 = fun _ => 1#1) (d : Fin 2048) :
    (∀ n : Fin 784, (p (ix2 n d) : EReal) ≠ ⊤ ∧ (p (ix2 n d) : EReal) ≠ ⊥)
    ∧ (∀ i : Fin 1024, (L (ix2 i d) : EReal) ≠ ⊤ ∧ (L (ix2 i d) : EReal) ≠ ⊥)
    ∧ (∀ i : Fin 1024, (L (ix2 i d) : EReal) = L (ix2 0 d) ∨ (L (ix2 i d) : EReal) = L (ix2 1023 d))
    ∧ (∀ i j : Fin 1024, i.val + 1 = j.val → (L (ix2 j d) : EReal) = L (ix2 0 d) → (L (ix2 i d) : EReal) = L (ix2 0 d)) := by
  refine ⟨fun n => ?_, fun i => ?_, fun i => ?_, fun i j hij hj => ?_⟩
  · have h := congrFun h1 (ix2 n d)
    revert h
    pointwise [fn]
    exact finite_of_bit
  · have h := congrFun h2 (ix2 i d)
    revert h
    pointwise [fn]
    exact finite_of_bit
  · have h := congrFun h3 (ix2 i d)
    revert h
    pointwise [fn]
    intro h
    by_contra hn
    rw [not_or] at hn
    rw [decide_eq_false hn.1, decide_eq_false hn.2] at h
    exact absurd h (by decide)
  · have hi : i.val < 1023 := by omega
    have h := congrFun h4 (ix2 ⟨i.val, hi⟩ d)
    revert h
    pointwise [fn]
    intro h
    by_contra hn
    have hj' : L (ix2 ⟨1 + i.val, by omega⟩ d) = L (ix2 0 d) := by
      rw [← hj]; exact congrArg (fun k => L (ix2 k d)) (Fin.ext (by show 1 + i.val = j.val; omega))
    rw [decide_eq_true hj', decide_eq_false hn] at h
    exact absurd h (by decide)

end Cert.Encode

end
-- ==== Proof.Equation.lean ====
/- The two programs' results agree where the precondition holds. -/
module

public import proofs.«01_k».proof.Proof.Run
public import proofs.«01_k».proof.Proof.Reference
public import proofs.«01_k».proof.Proof.Precondition

@[expose] public section

set_option maxRecDepth 16384

noncomputable section

namespace Cert.Encode

open Idealize.ShloMosaic Cert.KernelIdeal Cert.KernelIdeal.Gen
open Idealize.ShloMosaic.Pointwise

/-- The kernel's image array at position `n` of image `b` is that image's pixel `n`. -/
theorem flatImages_apply (x : Vec Ideal S64x28x28 .f32) (n : Fin 784) (b : Fin 64) : flatImages x (ix2 n b) = pixel x b n := by
  unfold pixel
  pointwise [flatImages]

/-- The kernel's result at `(b, d)` is the sign of the bundled sum. -/
theorem signs_apply (x : Vec Ideal S64x28x28 .f32) (p : Vec Ideal S784x2048 .f32) (L : Vec Ideal S1024x2048 .f32)
    (b : Fin 64) (d : Fin 2048) :
    shapeCast S64x2048 (signs3 x p L) shapeCasts_S64x1x2048_S64x2048 (ix2 b d)
      = signOf (bundled (flatImages x) (castPositions p) L b d) := by
  pointwise []
  rfl

/-- A bundled sum where the precondition holds: each position's entry times the entry of its pixel's level. -/
theorem bundled_eq [Cert.Pre_level_table.Facts] (x : Vec Ideal S64x28x28 .f32) (p : Vec Ideal S784x2048 .f32)
    (L : Vec Ideal S1024x2048 .f32)
    (h1 : (Cert.Pre_level_table.fn (F := Ideal) x p L).1 = fun _ => 1#1)
    (h2 : (Cert.Pre_level_table.fn (F := Ideal) x p L).2.1 = fun _ => 1#1)
    (h3 : (Cert.Pre_level_table.fn (F := Ideal) x p L).2.2.1 = fun _ => 1#1)
    (h4 : (Cert.Pre_level_table.fn (F := Ideal) x p L).2.2.2 = fun _ => 1#1) (b : Fin 64) (d : Fin 2048) :
    bundled (flatImages x) (castPositions p) L b d
      = ∑ n : Fin 784, p (ix2 n d) * L (ix2 ⟨level (pixel x b n), by have := level_le (pixel x b n); omega⟩ d) := by
  obtain ⟨hp, hL, hor, hpre⟩ := pre_reads x p L h1 h2 h3 h4 d
  have hrow : ∀ i : Fin 1024, (L (ix2 i d) : EReal)
      = if flipAt L d ≤ i.val then (L (ix2 1023 d) : EReal) else (L (ix2 0 d) : EReal) :=
    step_column (L := fun i => (L (ix2 i d) : EReal)) hor hpre
  unfold bundled
  simp only [flatImages_apply]
  refine (bound_sum (fun n => (p (ix2 n d) : EReal)) _ _ (fun n => flipAt L d ≤ level (pixel x b n)) hp (hL 0) (hL 1023)).trans ?_
  exact Finset.sum_congr rfl fun n _ => congrArg (fun v : EReal => (p (ix2 n d) : EReal) * v)
    (hrow ⟨level (pixel x b n), by have := level_le (pixel x b n); omega⟩).symm

/-- THE TWO RESULTS AGREE where the precondition holds. -/
theorem results_eq [Cert.Pre_level_table.Facts] (x : Vec Ideal S64x28x28 .f32) (p : Vec Ideal S784x2048 .f32)
    (L : Vec Ideal S1024x2048 .f32)
    (h1 : (Cert.Pre_level_table.fn (F := Ideal) x p L).1 = fun _ => 1#1)
    (h2 : (Cert.Pre_level_table.fn (F := Ideal) x p L).2.1 = fun _ => 1#1)
    (h3 : (Cert.Pre_level_table.fn (F := Ideal) x p L).2.2.1 = fun _ => 1#1)
    (h4 : (Cert.Pre_level_table.fn (F := Ideal) x p L).2.2.2 = fun _ => 1#1) :
    Cert.ReferenceIdeal.Read.val_main_v18 (F := Ideal) x p L
      = shapeCast S64x2048 (signs3 x p L) shapeCasts_S64x1x2048_S64x2048 := by
  funext i
  rw [eq_ix2 i]
  exact (reference_apply x p L (i 0) (i 1)).trans
    ((congrArg signOf (bundled_eq x p L h1 h2 h3 h4 (i 0) (i 1)).symm).trans (signs_apply x p L (i 0) (i 1)).symm)

end Cert.Encode

end
-- ==== Proof.lean ====
/- The claim, from the two programs' runs and the equation between their results. -/
module

public import proofs.«01_k».proof.Defs
public import proofs.«01_k».proof.Proof.Equation
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent
public import Idealize.ShloMosaic.Adequacy
public import Idealize.ShloMosaic.Init

@[expose] public section

noncomputable section

namespace Cert.Proof

open Idealize.ShloMosaic Idealize.SL.Sem

/-- The kernel, as compiled, runs, and leaves its arguments and every semaphore as they were. -/
theorem kernel_frame : Cert.quiescent_Kernel (hKernel := Cert.Kernel.Gen.facts) :=
  fun m g _ => Cert.Kernel.Gen.frame m g

/-- So does the kernel at the exact numbers. -/
theorem ideal_frame : Cert.quiescent_KernelIdeal (hKernelIdeal := Cert.KernelIdeal.Gen.facts) :=
  fun m g _ => Cert.KernelIdeal.Gen.frame m g

/-- And from memories satisfying the precondition. -/
theorem ideal_frame_pre : Cert.quiescent_KernelIdeal_pre_level_table (hKernelIdeal := Cert.KernelIdeal.Gen.facts)
    (hPre_level_table := Cert.Encode.pre_facts) :=
  fun m g _ => Cert.KernelIdeal.Gen.frame m g

/-- The reference runs, and leaves its arguments and every semaphore as they were. -/
theorem reference_frame : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

/-- And from memories satisfying the precondition. -/
theorem reference_frame_pre : Cert.quiescent_ReferenceIdeal_pre_level_table (hReferenceIdeal := Cert.ReferenceIdeal.Gen.facts)
    (hPre_level_table := Cert.Encode.pre_facts) :=
  fun m g _ => reference_frame m g trivial

/-- THE VALUE CLAIM: where the precondition holds, the kernel's result and the reference's are the same array. -/
theorem values_agree : Cert.algebraic_KernelIdeal_ReferenceIdeal_pre_level_table (hKernelIdeal := Cert.KernelIdeal.Gen.facts)
    (hReferenceIdeal := Cert.ReferenceIdeal.Gen.facts) (hPre_level_table := Cert.Encode.pre_facts) := by
  intro m g m' g' hpre hagree
  refine ⟨fun c => Cert.Encode.kernelResult m c, Cert.Encode.kernel_run m g, ?_⟩
  refine (θ_run Cert.ReferenceIdeal.defs _ _).mono (fun r h c => ⟨(h c).1.trans ?_, (h c).2⟩)
    (Cert.ReferenceIdeal.Value.run (F := Ideal) m' g')
  rw [Cert.ReferenceIdeal.Read.val_main_v18_eq, (hagree c).1, (hagree c).2.1, (hagree c).2.2]
  exact @Cert.Encode.results_eq Cert.Encode.pre_facts _ _ _ (hpre c).1 (hpre c).2.1 (hpre c).2.2.1 (hpre c).2.2.2

/-- The whole claim. -/
theorem claim : Cert.Claim :=
  ⟨Cert.Kernel.Gen.facts, Cert.KernelIdeal.Gen.facts, Cert.ReferenceIdeal.Gen.facts, Cert.Encode.pre_facts,
    kernel_frame, ideal_frame, ideal_frame_pre, reference_frame, reference_frame_pre, trivial, values_agree⟩

end Cert.Proof

end
